-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x384x7168 : Shape := ⟨3, ![4, 384, 7168]⟩
abbrev S4x12x224 : Shape := ⟨3, ![4, 12, 224]⟩
abbrev S2048x7168 : Shape := ⟨2, ![2048, 7168]⟩
abbrev S64x224 : Shape := ⟨2, ![64, 224]⟩
abbrev S2048 : Shape := ⟨1, ![2048]⟩
abbrev S3x16x224 : Shape := ⟨3, ![3, 16, 224]⟩
abbrev S3x16x224x32 : Shape := ⟨4, ![3, 16, 224, 32]⟩
abbrev S3x16x7168 : Shape := ⟨3, ![3, 16, 7168]⟩
abbrev S4x16x224 : Shape := ⟨3, ![4, 16, 224]⟩
abbrev S4x16x224x32 : Shape := ⟨4, ![4, 16, 224, 32]⟩
abbrev S4x16x7168 : Shape := ⟨3, ![4, 16, 7168]⟩
abbrev S1536x7168 : Shape := ⟨2, ![1536, 7168]⟩
abbrev S1x2048 : Shape := ⟨2, ![1, 2048]⟩
abbrev S1536x2048 : Shape := ⟨2, ![1536, 2048]⟩
abbrev S48x2048 : Shape := ⟨2, ![48, 2048]⟩
abbrev S512x7168 : Shape := ⟨2, ![512, 7168]⟩
abbrev S1x16x7168 : Shape := ⟨3, ![1, 16, 7168]⟩
abbrev S1x512 : Shape := ⟨2, ![1, 512]⟩
abbrev S512x512 : Shape := ⟨2, ![512, 512]⟩
abbrev S16x512 : Shape := ⟨2, ![16, 512]⟩
abbrev S512x1024 : Shape := ⟨2, ![512, 1024]⟩
abbrev S16x32x1024 : Shape := ⟨3, ![16, 32, 1024]⟩
abbrev S1x16x1024 : Shape := ⟨3, ![1, 16, 1024]⟩
abbrev S16x1024 : Shape := ⟨2, ![16, 1024]⟩
abbrev S16x1x1024 : Shape := ⟨3, ![16, 1, 1024]⟩
abbrev S16x32x512 : Shape := ⟨3, ![16, 32, 512]⟩
abbrev S16x128 : Shape := ⟨2, ![16, 128]⟩
abbrev S16x128x1 : Shape := ⟨3, ![16, 128, 1]⟩
abbrev S16x32x128 : Shape := ⟨3, ![16, 32, 128]⟩
abbrev S16x1x128 : Shape := ⟨3, ![16, 1, 128]⟩
abbrev S512x128 : Shape := ⟨2, ![512, 128]⟩
abbrev S4x12x64x32 : Shape := ⟨4, ![4, 12, 64, 32]⟩
abbrev S4x12x64x1 : Shape := ⟨4, ![4, 12, 64, 1]⟩
abbrev S4x12x64 : Shape := ⟨3, ![4, 12, 64]⟩
abbrev S4x384x2048 : Shape := ⟨3, ![4, 384, 2048]⟩

abbrev nBuf : Space → Nat
  | .hbm => 21
  | .vmem => 14
  | .smem => 0
  | _ => 0

abbrev bufTy : (tb : Table) → Fin (tcTables nBuf tb) → BufTy
  | .hbm, ⟨0, _⟩ => ⟨S4x384x7168, .i8⟩
  | .hbm, ⟨1, _⟩ => ⟨S4x12x224, .f32⟩
  | .hbm, ⟨2, _⟩ => ⟨S2048x7168, .i8⟩
  | .hbm, ⟨3, _⟩ => ⟨S64x224, .f32⟩
  | .hbm, ⟨4, _⟩ => ⟨S2048, .f32⟩
  | .hbm, ⟨5, _⟩ => ⟨S4x12x224, .bf16⟩
  | .hbm, ⟨6, _⟩ => ⟨S3x16x224, .bf16⟩
  | .hbm, ⟨7, _⟩ => ⟨S3x16x224x32, .bf16⟩
  | .hbm, ⟨8, _⟩ => ⟨S3x16x7168, .bf16⟩
  | .hbm, ⟨9, _⟩ => ⟨S64x224, .bf16⟩
  | .hbm, ⟨10, _⟩ => ⟨S4x16x224, .bf16⟩
  | .hbm, ⟨11, _⟩ => ⟨S4x16x224x32, .bf16⟩
  | .hbm, ⟨12, _⟩ => ⟨S4x16x7168, .bf16⟩
  | .hbm, ⟨13, _⟩ => ⟨S1536x7168, .i8⟩
  | .hbm, ⟨14, _⟩ => ⟨S1x2048, .f32⟩
  | .hbm, ⟨15, _⟩ => ⟨S1536x2048, .i8⟩
  | .hbm, ⟨16, _⟩ => ⟨S48x2048, .f32⟩
  | .hbm, ⟨17, _⟩ => ⟨S4x12x64x32, .f32⟩
  | .hbm, ⟨18, _⟩ => ⟨S4x12x64x1, .f32⟩
  | .hbm, ⟨19, _⟩ => ⟨S4x12x64, .f32⟩
  | .hbm, ⟨20, _⟩ => ⟨S4x384x2048, .i8⟩
  | .local _ .vmem, ⟨0, _⟩ => ⟨S512x7168, .i8⟩
  | .local _ .vmem, ⟨1, _⟩ => ⟨S512x7168, .i8⟩
  | .local _ .vmem, ⟨2, _⟩ => ⟨S1x16x7168, .bf16⟩
  | .local _ .vmem, ⟨3, _⟩ => ⟨S1x16x7168, .bf16⟩
  | .local _ .vmem, ⟨4, _⟩ => ⟨S512x7168, .i8⟩
  | .local _ .vmem, ⟨5, _⟩ => ⟨S512x7168, .i8⟩
  | .local _ .vmem, ⟨6, _⟩ => ⟨S1x16x7168, .bf16⟩
  | .local _ .vmem, ⟨7, _⟩ => ⟨S1x16x7168, .bf16⟩
  | .local _ .vmem, ⟨8, _⟩ => ⟨S1x512, .f32⟩
  | .local _ .vmem, ⟨9, _⟩ => ⟨S1x512, .f32⟩
  | .local _ .vmem, ⟨10, _⟩ => ⟨S512x512, .i8⟩
  | .local _ .vmem, ⟨11, _⟩ => ⟨S512x512, .i8⟩
  | .local _ .vmem, ⟨12, _⟩ => ⟨S16x512, .f32⟩
  | .local _ .vmem, ⟨13, _⟩ => ⟨S16x512, .f32⟩
  | _, _ => ⟨S4x384x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x7168 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x16x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x7168 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x384x7168 : Shape := ⟨3, ![4, 384, 7168]⟩
abbrev S4x12x224 : Shape := ⟨3, ![4, 12, 224]⟩
abbrev S2048x7168 : Shape := ⟨2, ![2048, 7168]⟩
abbrev S64x224 : Shape := ⟨2, ![64, 224]⟩
abbrev S2048 : Shape := ⟨1, ![2048]⟩
abbrev S4x384x2048 : Shape := ⟨3, ![4, 384, 2048]⟩
abbrev S4x12x64 : Shape := ⟨3, ![4, 12, 64]⟩
abbrev S4x12x32x224x32 : Shape := ⟨5, ![4, 12, 32, 224, 32]⟩
abbrev S4x12x1x224x1 : Shape := ⟨5, ![4, 12, 1, 224, 1]⟩
abbrev S64x32x224x32 : Shape := ⟨4, ![64, 32, 224, 32]⟩
abbrev S64x1x224x1 : Shape := ⟨4, ![64, 1, 224, 1]⟩
abbrev S1x1x2048 : Shape := ⟨3, ![1, 1, 2048]⟩
abbrev S4x12x32x64x32 : Shape := ⟨5, ![4, 12, 32, 64, 32]⟩
abbrev S4x12x1x64x1 : Shape := ⟨5, ![4, 12, 1, 64, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x384x7168, .i8⟩
  | .hbm, ⟨1, _⟩ => ⟨S4x12x224, .f32⟩
  | .hbm, ⟨2, _⟩ => ⟨S2048x7168, .i8⟩
  | .hbm, ⟨3, _⟩ => ⟨S64x224, .f32⟩
  | .hbm, ⟨4, _⟩ => ⟨S2048, .f32⟩
  | .hbm, ⟨5, _⟩ => ⟨S4x384x2048, .i8⟩
  | .hbm, ⟨6, _⟩ => ⟨S4x12x64, .f32⟩
  | .local _ .vmem, ⟨0, _⟩ => ⟨S4x384x7168, .i8⟩
  | .local _ .vmem, ⟨1, _⟩ => ⟨S4x12x224, .f32⟩
  | .local _ .vmem, ⟨2, _⟩ => ⟨S2048x7168, .i8⟩
  | .local _ .vmem, ⟨3, _⟩ => ⟨S64x224, .f32⟩
  | .local _ .vmem, ⟨4, _⟩ => ⟨S2048, .f32⟩
  | .local _ .vmem, ⟨5, _⟩ => ⟨S4x384x2048, .i8⟩
  | .local _ .vmem, ⟨6, _⟩ => ⟨S4x12x64, .f32⟩
  | _, _ => ⟨S4x384x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x384x7168 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x12x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x7168 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x224 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384x2048 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x12x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Spec.lean ====
/-
  THE MATHEMATICS both programs compute, on plain functions of row and column numbers over the extended reals (what the
  idealized programs calculate with): the linear layer over block-scaled operands, the activation, the greatest absolute
  value of a 32 × 32 block, the block's scale, and the 8-bit code of one element. Nothing here mentions a program.
-/
module

public import Idealize.ShloMosaic.Lib.Pointwise

@[expose] public section

noncomputable section

namespace Cert.Spec

open Idealize.ShloMosaic

/-- The absolute value, as the programs' `absf` takes it. -/
abbrev abs' (v : EReal) : EReal := FloatOps.absf (F := Ideal) (φ := .f32) v

/-- The tanh form of gelu, `v · (½ · (1 + tanh (c₁ · (v + c₀ · v³))))`, with the constants' float32 words. -/
def gelu (v : EReal) : EReal :=
  v * (Ideal.ofBits .f32 0x3F000000#32 *
    (1 + Ideal.tanh (Ideal.ofBits .f32 0x3F4C422A#32 * (v + Ideal.ofBits .f32 0x3D372713#32 * (v * (v * v))))))

/-- The scale of a block whose greatest absolute value is `a`: `a / 127`, and 1 for a block of zeros. -/
def scale (a : EReal) : EReal := if a = 0 then 1 else Ideal.div a (Ideal.ofBits .f32 0x42FE0000#32)

/-- The code of the value `v` under the scale `s`: `v / s` rounded half to even, clipped to ±127, as an 8-bit integer. -/
def code (v s : EReal) : BitVec 8 :=
  FloatOps.fptosi (F := Ideal) (φ := .f32) 8
    (min (Ideal.ofBits .f32 0x42FE0000#32)
      (max (Ideal.ofBits .f32 0xC2FE0000#32) (Ideal.liftRound Ideal.roundHalfEven (Ideal.div v s))))

/-- One element of the linear layer: the 7168 products of the operands' entries, each entry times its 32-block's scale,
    summed, and the bias added. -/
def lin (X : Fin 4 → Fin 384 → Fin 7168 → EReal) (XS : Fin 4 → Fin 12 → Fin 224 → EReal) (W : Fin 2048 → Fin 7168 → EReal)
    (WS : Fin 64 → Fin 224 → EReal) (B : Fin 2048 → EReal) (b : Fin 4) (s : Fin 384) (n : Fin 2048) : EReal :=
  (∑ k : Fin 7168, X b s k * XS b ⟨s / 32, by omega⟩ ⟨k / 32, by omega⟩ * (W n k * WS ⟨n / 32, by omega⟩ ⟨k / 32, by omega⟩)) + B n

/-- The linear layer of five argument arrays: codes and scales of the left operand, codes and scales of the right operand,
    the bias. -/
def linOf (a0 : Vec Ideal ⟨3, ![4, 384, 7168]⟩ .i8) (a1 : FVec Ideal ⟨3, ![4, 12, 224]⟩ .f32) (a2 : Vec Ideal ⟨2, ![2048, 7168]⟩ .i8)
    (a3 : FVec Ideal ⟨2, ![64, 224]⟩ .f32) (a4 : FVec Ideal ⟨1, ![2048]⟩ .f32) : Fin 4 → Fin 384 → Fin 2048 → EReal :=
  lin (fun b s k => FloatOps.sitofp (F := Ideal) .bf16 (a0 (ix3 b s k))) (fun b g k => a1 (ix3 b g k))
    (fun n k => FloatOps.sitofp (F := Ideal) .bf16 (a2 (ix2 n k))) (fun h k => a3 (ix2 h k)) (fun n => a4 (ix1 n))

/-- The greatest absolute value of a block of 32 rows and 32 columns. -/
def blockMax (f : Fin 32 → Fin 32 → EReal) : EReal := Finset.univ.sup fun p => Finset.univ.sup fun q => abs' (f p q)

/-- The block's greatest absolute value with its columns taken first. -/
theorem blockMax_comm (f : Fin 32 → Fin 32 → EReal) :
    blockMax f = Finset.univ.sup fun q => Finset.univ.sup fun p => abs' (f p q) := Finset.sup_comm _ _ _

/-- The scale of block `(g, h)` of batch entry `b` of the array `z`. -/
def scaleAt (z : Fin 4 → Fin 384 → Fin 2048 → EReal) (b : Fin 4) (g : Fin 12) (h : Fin 64) : EReal :=
  scale (blockMax fun p q => gelu (z b ⟨g * 32 + p, by omega⟩ ⟨h * 32 + q, by omega⟩))

/-- The code of element `(s, n)` of batch entry `b` of the array `z`, under the scale of the block it lies in. -/
def codeAt (z : Fin 4 → Fin 384 → Fin 2048 → EReal) (b : Fin 4) (s : Fin 384) (n : Fin 2048) : BitVec 8 :=
  code (gelu (z b s n)) (scaleAt z b ⟨s / 32, by omega⟩ ⟨n / 32, by omega⟩)

/-- The word −∞ is the least extended real. -/
theorem neg_inf : Ideal.ofBits .f32 0xFF800000#32 = ⊥ := by simp [Ideal.ofBits, Ideal.ieee]

/-- A maximum folded from −∞ over a finite set is the supremum over it. -/
theorem fold_max {ι : Type} (S : Finset ι) (f : ι → EReal) : Finset.fold max (Ideal.ofBits .f32 0xFF800000#32) f S = S.sup f := by
  rw [neg_inf]; rfl

end Cert.Spec

end
-- ==== Proof.KernelBlock.lean ====
/-
  WHAT ONE BLOCK COMPUTES, over any five input blocks: the linear layer's element before the activation, the activation,
  and the greatest absolute value of 32 rows in one column.
-/
module

public import proofs.«01_k».proof.Proof.Gen.KernelIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

section block

variable (x0 : Vec Ideal S512x7168 .i8) (x1 : FVec Ideal S1x16x7168 .bf16) (x2 : Vec Ideal S512x7168 .i8)
  (x3 : FVec Ideal S1x16x7168 .bf16) (x4 : FVec Ideal S1x512 .f32)

/-- One product of the block's contraction: the two codes at lane `k`, each times its scale. -/
def term (r c : Fin 512) (k : Fin 7168) : EReal :=
  FloatOps.sitofp (F := Ideal) .bf16 (x0 (ix2 r k)) * x1 (ix3 0 ⟨r / 32, by omega⟩ k)
    * (FloatOps.sitofp (F := Ideal) .bf16 (x2 (ix2 c k)) * x3 (ix3 0 ⟨c / 32, by omega⟩ k))

/-- The block's linear layer at row `r` and column `c`. -/
def pre (r c : Fin 512) : EReal := (∑ k : Fin 7168, term x0 x1 x2 x3 r c k) + x4 (ix2 0 c)

/-- The seven partial contractions of 1024 lanes add up to the contraction over 7168. -/
theorem seven (f : Fin 7168 → EReal) : (∑ k, f k)
    = (∑ t : Fin 1024, f ⟨t, by omega⟩) + (∑ t : Fin 1024, f ⟨1024 + t, by omega⟩) + (∑ t : Fin 1024, f ⟨2048 + t, by omega⟩)
      + (∑ t : Fin 1024, f ⟨3072 + t, by omega⟩) + (∑ t : Fin 1024, f ⟨4096 + t, by omega⟩) + (∑ t : Fin 1024, f ⟨5120 + t, by omega⟩)
      + (∑ t : Fin 1024, f ⟨6144 + t, by omega⟩) := by
  rw [Fin.sum_univ_tiles 7 1024 rfl f, Fin.sum_univ_seven]
  refine congrArg₂ _ (congrArg₂ _ (congrArg₂ _ (congrArg₂ _ (congrArg₂ _ (congrArg₂ _ ?_ ?_) ?_) ?_) ?_) ?_) ?_ <;>
    exact Finset.sum_congr rfl fun t _ => congrArg f (Fin.ext (by simp))

/-- The accumulated contraction with the bias, as the kernel computes it, is the block's linear layer. -/
theorem pay36_at (r c : Fin 512) : k0_pay36 (F := Ideal) x0 x1 x2 x3 x4 (ix2 r c) = pre x0 x1 x2 x3 x4 r c := by
  unfold pre
  rw [seven]
  unfold k0_pay36 k0_pay34 k0_pay35 term
  pointwise [k0_pay1, k0_pay2, k0_pay3, k0_pay4, k0_pay5, k0_pay6, k0_pay7, k0_pay8, k0_pay9]

/-- The inner polynomial of the activation, at any index. -/
theorem pay37_at (j : S512x512.Idx) : k0_pay37 (F := Ideal) x0 x1 x2 x3 x4 j
    = (show EReal from k0_pay36 (F := Ideal) x0 x1 x2 x3 x4 j) + Ideal.ofBits .f32 0x3D372713#32 *
      ((show EReal from k0_pay36 (F := Ideal) x0 x1 x2 x3 x4 j) * ((show EReal from k0_pay36 (F := Ideal) x0 x1 x2 x3 x4 j) *
        (show EReal from k0_pay36 (F := Ideal) x0 x1 x2 x3 x4 j))) := by
  unfold k0_pay37 k0_pay36
  pointwise [k0_pay10]

/-- The activation of the linear layer, in row blocks of 32. -/
theorem pay39_at (g : Fin 16) (p : Fin 32) (c : Fin 512) : k0_pay39 (F := Ideal) x0 x1 x2 x3 x4 (ix3 g p c)
    = Spec.gelu (pre x0 x1 x2 x3 x4 ⟨g * 32 + p, by omega⟩ c) := by
  rw [← pay36_at]
  unfold k0_pay39 Spec.gelu
  rw [← pay37_at]
  pointwise [k0_pay11]

/-- The greatest absolute value of the activation over the 32 rows of a row block, in one column. -/
theorem pay40_at (g : Fin 16) (c : Fin 512) : k0_pay40 (F := Ideal) x0 x1 x2 x3 x4 (ix2 g c)
    = Finset.univ.sup fun p : Fin 32 => Spec.abs' (Spec.gelu (pre x0 x1 x2 x3 x4 ⟨g * 32 + p, by omega⟩ c)) := by
  rw [← Spec.fold_max]
  simp only [← pay39_at]
  unfold k0_pay40 k0_pay39
  pointwise [k0_pay12]

end block

end Cert.KernelIdeal.Value

end
-- ==== Proof.KernelInputs.lean ====
/-
  THE INPUT BLOCKS of a grid point, read at the argument arrays: the block's linear layer is the arguments' linear layer at
  the rows and columns the block covers.
-/
module

public import proofs.«01_k».proof.Proof.KernelBlock
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- Which block each window is at, at grid point `t`: the row tile is `t % 3`, the column tile `t / 3`. -/
theorem idx : ∀ t : Fin cfg0.N, win0_0.index t = ![t.val % 3, 0] ∧ win0_1.index t = ![t.val % 3, 0, 0] ∧ win0_2.index t = ![t.val / 3, 0]
    ∧ win0_3.index t = ![t.val / 3, 0, 0] ∧ win0_4.index t = ![0, t.val / 3] ∧ win0_5.index t = ![t.val % 3, t.val / 3]
    ∧ win0_6.index t = ![t.val % 3, t.val / 3] ∧ t.val < 12 :=
  (by decide +kernel : ∀ t : Fin grid0.N, _)

/-- The arguments' linear layer. -/
abbrev argLin (c : Dev nD) : Fin 4 → Fin 384 → Fin 2048 → EReal :=
  Spec.linOf (m ((c : Thread nD τ).loc main_arg0)) (m ((c : Thread nD τ).loc main_arg1)) (m ((c : Thread nD τ).loc main_arg2))
    (m ((c : Thread nD τ).loc main_arg3)) (m ((c : Thread nD τ).loc main_arg4))

/-- The left codes as the region finds them: the rows of the batch entries one after another. -/
theorem V8 (c : Dev nD) (R : Fin 1536) (k : Fin 7168) : (V m c main_v8 : Vec Ideal S1536x7168 .i8) (ix2 R k)
    = (m ((c : Thread nD τ).loc main_arg0) : Vec Ideal S4x384x7168 .i8) (ix3 ⟨R / 384, by omega⟩ ⟨R % 384, by omega⟩ k) := by
  simp only [V, V0, hostOps0, List.flatten_cons, List.flatten_nil, List.append_nil]
  after_results
  pointwise

/-- The left scales as the region finds them: one per row block and lane. -/
theorem V3 (c : Dev nD) (i : Fin 3) (g : Fin 16) (k : Fin 7168) : (V m c main_v3 : FVec Ideal S3x16x7168 .bf16) (ix3 i g k)
    = (m ((c : Thread nD τ).loc main_arg1) : FVec Ideal S4x12x224 .f32) (ix3 ⟨(i * 16 + g) / 12, by omega⟩ ⟨(i * 16 + g) % 12, by omega⟩ ⟨k / 32, by omega⟩) := by
  simp only [V, V0, hostOps0, List.flatten_cons, List.flatten_nil, List.append_nil]
  after_results
  pointwise
  have e1 : (i.val * 3584 + g.val * 224 + k.val / 32) / 2688 = (i.val * 16 + g.val) / 12 := by omega
  have e2 : (i.val * 3584 + g.val * 224 + k.val / 32) / 224 % 12 = (i.val * 16 + g.val) % 12 := by omega
  simp only [e1, e2]

/-- The right scales as the region finds them: one per column block and lane. -/
theorem V7 (c : Dev nD) (j : Fin 4) (h : Fin 16) (k : Fin 7168) : (V m c main_v7 : FVec Ideal S4x16x7168 .bf16) (ix3 j h k)
    = (m ((c : Thread nD τ).loc main_arg3) : FVec Ideal S64x224 .f32) (ix2 ⟨j * 16 + h, by omega⟩ ⟨k / 32, by omega⟩) := by
  simp only [V, V0, hostOps0, List.flatten_cons, List.flatten_nil, List.append_nil]
  after_results
  pointwise

/-- The bias as the region finds it. -/
theorem V9 (c : Dev nD) (n : Fin 2048) : (V m c main_v9 : FVec Ideal S1x2048 .f32) (ix2 0 n)
    = (m ((c : Thread nD τ).loc main_arg4) : FVec Ideal S2048 .f32) (ix1 n) := by
  simp only [V, V0, hostOps0, List.flatten_cons, List.flatten_nil, List.append_nil]
  after_results
  pointwise

/-- A row of the left codes' block is a row of the left codes. -/
theorem left_at (c : Dev nD) (t : Fin cfg0.N) (r : Fin 512) (k : Fin 7168) (R : Fin 1536) (hR : R.val = t.val % 3 * 512 + r.val) :
    (iblk m c 0 t : Vec Ideal S512x7168 .i8) (ix2 r k)
      = (m ((c : Thread nD τ).loc main_arg0) : Vec Ideal S4x384x7168 .i8) (ix3 ⟨R / 384, by omega⟩ ⟨R % 384, by omega⟩ k) := by
  refine (show _ = (V m c main_v8 : Vec Ideal S1536x7168 .i8) (ix2 R k) from ?_).trans (V8 m c R k)
  blk_simp [iblk, idx t]
  blk_ext [idx t]

/-- A row of the left scales' block is a row of the left scales. -/
theorem leftScale_at (c : Dev nD) (t : Fin cfg0.N) (r : Fin 512) (k : Fin 7168) (R : Fin 1536) (hR : R.val = t.val % 3 * 512 + r.val) :
    (iblk m c 1 t : FVec Ideal S1x16x7168 .bf16) (ix3 0 ⟨r / 32, by omega⟩ k)
      = (m ((c : Thread nD τ).loc main_arg1) : FVec Ideal S4x12x224 .f32)
          (ix3 ⟨R / 384, by omega⟩ ⟨R % 384 / 32, by omega⟩ ⟨k / 32, by omega⟩) := by
  refine (show _ = (V m c main_v3 : FVec Ideal S3x16x7168 .bf16) (ix3 ⟨t.val % 3, by omega⟩ ⟨r / 32, by omega⟩ k) from ?_).trans
    ((V3 m c _ _ k).trans ?_)
  · blk_simp [iblk, idx t]
    blk_ext [idx t]
  · have e1 : (t.val % 3 * 16 + r.val / 32) / 12 = R.val / 384 := by omega
    have e2 : (t.val % 3 * 16 + r.val / 32) % 12 = R.val % 384 / 32 := by omega
    simp only [e1, e2]

/-- A row of the right codes' block is a row of the right codes. -/
theorem right_at (c : Dev nD) (t : Fin cfg0.N) (n : Fin 512) (k : Fin 7168) (N : Fin 2048) (hN : N.val = t.val / 3 * 512 + n.val) :
    (iblk m c 2 t : Vec Ideal S512x7168 .i8) (ix2 n k)
      = (m ((c : Thread nD τ).loc main_arg2) : Vec Ideal S2048x7168 .i8) (ix2 N k) := by
  refine (show _ = (V m c main_arg2 : Vec Ideal S2048x7168 .i8) (ix2 N k) from ?_).trans (congrFun (V_main_arg2 m c) _)
  blk_simp [iblk, idx t]
  blk_ext [idx t]

/-- A row of the right scales' block is a row of the right scales. -/
theorem rightScale_at (c : Dev nD) (t : Fin cfg0.N) (n : Fin 512) (k : Fin 7168) (N : Fin 2048) (hN : N.val = t.val / 3 * 512 + n.val) :
    (iblk m c 3 t : FVec Ideal S1x16x7168 .bf16) (ix3 0 ⟨n / 32, by omega⟩ k)
      = (m ((c : Thread nD τ).loc main_arg3) : FVec Ideal S64x224 .f32) (ix2 ⟨N / 32, by omega⟩ ⟨k / 32, by omega⟩) := by
  have ht : t.val < 12 := t.isLt
  refine (show _ = (V m c main_v7 : FVec Ideal S4x16x7168 .bf16) (ix3 ⟨t.val / 3, by omega⟩ ⟨n / 32, by omega⟩ k) from ?_).trans
    ((V7 m c _ _ k).trans ?_)
  · blk_simp [iblk, idx t]
    blk_ext [idx t]
  · have e1 : t.val / 3 * 16 + n.val / 32 = N.val / 32 := by omega
    simp only [e1]

/-- An entry of the bias's block is an entry of the bias. -/
theorem bias_at (c : Dev nD) (t : Fin cfg0.N) (n : Fin 512) (N : Fin 2048) (hN : N.val = t.val / 3 * 512 + n.val) :
    (iblk m c 4 t : FVec Ideal S1x512 .f32) (ix2 0 n) = (m ((c : Thread nD τ).loc main_arg4) : FVec Ideal S2048 .f32) (ix1 N) := by
  refine (show _ = (V m c main_v9 : FVec Ideal S1x2048 .f32) (ix2 0 N) from ?_).trans (V9 m c N)
  blk_simp [iblk, idx t]
  blk_ext [idx t]

/-- The block's linear layer at row `r` and column `n` is the arguments' at row `R` of the 1536 rows (`R / 384` the batch
    entry, `R % 384` the row in it) and column `N`. -/
theorem pre_eq (c : Dev nD) (t : Fin cfg0.N) (r n : Fin 512) (R : Fin 1536) (N : Fin 2048) (hR : R.val = t.val % 3 * 512 + r.val)
    (hN : N.val = t.val / 3 * 512 + n.val) :
    pre (iblk m c 0 t) (iblk m c 1 t) (iblk m c 2 t) (iblk m c 3 t) (iblk m c 4 t) r n
      = argLin m c ⟨R / 384, by omega⟩ ⟨R % 384, by omega⟩ N := by
  unfold pre term argLin Spec.linOf Spec.lin
  refine congrArg₂ (· + ·) (Finset.sum_congr rfl fun k _ => ?_) (bias_at m c t n N hN)
  exact congrArg₂ (· * ·)
    (congrArg₂ (· * ·) (congrArg (FloatOps.sitofp (F := Ideal) .bf16) (left_at m c t r k R hR)) (leftScale_at m c t r k R hR))
    (congrArg₂ (· * ·) (congrArg (FloatOps.sitofp (F := Ideal) .bf16) (right_at m c t n k N hN)) (rightScale_at m c t n k N hN))

end Cert.KernelIdeal.Value

end
-- ==== Proof.KernelLanes.lean ====
/-
  THE MAXIMUM OVER 32 LANES by five exchange steps: what one step of the kernel computes at a lane, that five steps at
  distances 1, 2, 4, 8, 16 leave in every lane the greatest of its group of 32, and that each of the kernel's four groups of
  128 lanes computes its scales by these steps.
-/
module

public import proofs.«01_k».proof.Proof.Gen.KernelIdeal.Frame
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem

namespace Cert.KernelIdeal.Value

open Cert.KernelIdeal Cert.KernelIdeal.Gen

/-- Lane `l` with the bits of `s` flipped. -/
def flip (s : ℕ) (l : Fin 128) : Fin 128 := ⟨(l.val ^^^ s) % 128, by omega⟩

/-- The lane numbers. -/
abbrev lanes : IVec S16x128 32 := iota .tc S16x128 32 [1] iota_S16x128_d1_w32

/-- One exchange step: each lane against the lane whose number differs in the bits of `s`. -/
def step (s : BitVec 32) (v : FVec Ideal S16x128 .f32) : FVec Ideal S16x128 .f32 :=
  maximumf v (dynamicGather 1 v (shapeCast S16x128 (shapeCast S16x128x1
    (select (cmpi .slt (xori lanes (broadcast S16x128 s)) (broadcast S16x128 0#32))
      (addi (xori lanes (broadcast S16x128 s)) (broadcast S16x128 128#32)) (xori lanes (broadcast S16x128 s)))
    shapeCasts_S16x128_S16x128x1) shapeCasts_S16x128x1_S16x128))

/-- The lane index the step gathers from, for the five distances (decided over the 128 lanes). -/
theorem partner : ∀ s ∈ [1, 2, 4, 8, 16], ∀ l : Fin 128,
    (Scalar.select (IntOp.cmpi .slt (IntOp.xori (BitVec.ofNat 32 l.val) (BitVec.ofNat 32 s)) 0#32)
      (IntOp.addi (IntOp.xori (BitVec.ofNat 32 l.val) (BitVec.ofNat 32 s)) 128#32)
      (IntOp.xori (BitVec.ofNat 32 l.val) (BitVec.ofNat 32 s))).toNat % 128 = (l.val ^^^ s) % 128 := by
  decide +kernel

/-- One step at row `r` and lane `l`: the greater of the lane and its partner. -/
theorem step_at (s : ℕ) (hs : s ∈ [1, 2, 4, 8, 16]) (v : FVec Ideal S16x128 .f32) (r : Fin 16) (l : Fin 128) :
    step (BitVec.ofNat 32 s) v (ix2 r l) = max (v (ix2 r l)) (v (ix2 r (flip s l))) := by
  pointwise [step, lanes]
  exact congrArg (fun k => max (v (ix2 r l)) (v (ix2 r k))) (Fin.ext (partner s hs l))

/-- Several exchange steps, the last one first in the list. -/
def steps : List ℕ → FVec Ideal S16x128 .f32 → FVec Ideal S16x128 .f32
  | [], v => v
  | s :: ss, v => step (BitVec.ofNat 32 s) (steps ss v)

/-- The lanes whose values several steps bring to lane `l`. -/
def sources : List ℕ → Fin 128 → List (Fin 128)
  | [], l => [l]
  | s :: ss, l => sources ss l ++ sources ss (flip s l)

/-- After the steps a lane is at most `c` exactly when every lane it has heard of is. -/
theorem steps_le (v : FVec Ideal S16x128 .f32) (r : Fin 16) (c : EReal) : ∀ (ss : List ℕ) (_ : ∀ s ∈ ss, s ∈ [1, 2, 4, 8, 16]) (l : Fin 128),
    (show EReal from steps ss v (ix2 r l)) ≤ c ↔ ∀ k ∈ sources ss l, (show EReal from v (ix2 r k)) ≤ c
  | [], _, l => by simp [steps, sources]
  | s :: ss, hs, l => by
    have ih := steps_le v r c ss fun s' h => hs s' (List.mem_cons_of_mem s h)
    show (show EReal from step (BitVec.ofNat 32 s) (steps ss v) (ix2 r l)) ≤ c ↔ _
    rw [step_at s (hs s List.mem_cons_self) (steps ss v) r l]
    refine max_le_iff.trans ?_
    rw [ih l, ih (flip s l)]
    simp only [sources, List.mem_append]
    exact ⟨fun h k hk => hk.elim (h.1 k) (h.2 k), fun h => ⟨fun k hk => h k (.inl hk), fun k hk => h k (.inr hk)⟩⟩

/-- The five distances, the last step first. -/
abbrev five : List ℕ := [16, 8, 4, 2, 1]

/-- Five steps bring to a lane the values of exactly the lanes of its group of 32 (decided). -/
theorem sources_five : ∀ l : Fin 128, (∀ k ∈ sources five l, ∃ q : Fin 32, k.val = l.val / 32 * 32 + q.val) ∧
    ∀ q : Fin 32, (⟨l / 32 * 32 + q, by omega⟩ : Fin 128) ∈ sources five l := by
  decide +kernel

/-- After five steps every lane holds the greatest value of its group of 32. -/
theorem five_at (v : FVec Ideal S16x128 .f32) (r : Fin 16) (l : Fin 128) :
    (show EReal from steps five v (ix2 r l)) = Finset.univ.sup fun q : Fin 32 => (show EReal from v (ix2 r ⟨l / 32 * 32 + q, by omega⟩)) := by
  refine eq_of_forall_ge_iff fun c => ?_
  rw [steps_le v r c five (by decide) l, Finset.sup_le_iff]
  constructor
  · exact fun h q _ => h _ ((sources_five l).2 q)
  · intro h k hk
    obtain ⟨q, hq⟩ := (sources_five l).1 k hk
    rw [show k = ⟨l / 32 * 32 + q, by omega⟩ from Fin.ext hq]
    exact h q (Finset.mem_univ q)

/-! ## The scales of the four groups of lanes -/

/-- The scales of a group of lanes from its greatest absolute values per row block, as the kernel computes them. -/
def scales (v : FVec Ideal S16x128 .f32) : FVec Ideal S16x128 .f32 :=
  select (cmpf .oeq (steps five v) (broadcast S16x128 (Scalar.ofBits .f32 0x00000000#32)))
    (broadcast S16x128 (Scalar.ofBits .f32 0x3F800000#32)) (divf (steps five v) (broadcast S16x128 (Scalar.ofBits .f32 0x42FE0000#32)))

/-- A group's scale at a lane: `Spec.scale` of the greatest value of the lane's group of 32. -/
theorem scales_at (v : FVec Ideal S16x128 .f32) (r : Fin 16) (l : Fin 128) :
    scales v (ix2 r l) = Spec.scale (Finset.univ.sup fun q : Fin 32 => (show EReal from v (ix2 r ⟨l / 32 * 32 + q, by omega⟩))) := by
  rw [← five_at v r l]
  pointwise [scales, Spec.scale]

set_option maxRecDepth 65536 in
/-- Group 0 computes its scales by the five steps. -/
theorem scales0 (a b : FVec Ideal S512x512 .f32) : k0_pay14 (F := Ideal) lanes (k0_pay13 (F := Ideal) a b) 8#32
    = scales (extractStridedSlice S16x128 ![0, 0] (k0_pay12 (F := Ideal) a b) slices_S16x512_o0_0_S16x128) := rfl

/-- Group 1 computes its scales by the five steps. -/
theorem scales1 (v : FVec Ideal S16x512 .f32) :
    k0_pay21 (F := Ideal) (k0_pay18 (F := Ideal) lanes (k0_pay16 (F := Ideal) v) k0_pay17) (k0_pay19 lanes) (k0_pay20 lanes)
      = scales (extractStridedSlice S16x128 ![0, 128] v slices_S16x512_o0_128_S16x128) := rfl

/-- Group 2 computes its scales by the five steps. -/
theorem scales2 (v : FVec Ideal S16x512 .f32) :
    k0_pay26 (F := Ideal) lanes (k0_pay23 (F := Ideal) v lanes) (k0_pay24 lanes) (k0_pay25 lanes) 128#32
      = scales (extractStridedSlice S16x128 ![0, 256] v slices_S16x512_o0_256_S16x128) := rfl

/-- Group 3 computes its scales by the five steps. -/
theorem scales3 (v : FVec Ideal S16x512 .f32) :
    k0_pay32 (F := Ideal) lanes (k0_pay30 (F := Ideal) v lanes) (k0_pay31 lanes)
      = scales (extractStridedSlice S16x128 ![0, 384] v slices_S16x512_o0_384_S16x128) := rfl

end Cert.KernelIdeal.Value

end
-- ==== Proof.KernelOut.lean ====
/-
  WHAT ONE BLOCK WRITES: each of the four groups of 128 lanes stores its scales and its codes, and together the four
  stores leave, at every row and column of the block, the scale and the code of the activation there.
-/
module

public import proofs.«01_k».proof.Proof.KernelLanes
public import proofs.«01_k».proof.Proof.KernelBlock

@[expose] public section

set_option maxRecDepth 16384

noncomputable section

open Idealize.ShloMosaic Idealize.ShloMosaic.TcCoe Idealize.SL.Sem

namespace Cert.KernelIdeal.Value

open Cert.KernelIdeal Cert.KernelIdeal.Gen

/-- The codes of a group of lanes from its activations and its scales, as the kernel computes them. -/
def codes (z : FVec Ideal S16x32x128 .f32) (s : FVec Ideal S16x128 .f32) : IVec S512x128 8 :=
  fptosi 8 (shapeCast S512x128
    (minimumf (broadcast S16x32x128 (Scalar.ofBits .f32 0x42FE0000#32))
      (maximumf (broadcast S16x32x128 (Scalar.ofBits .f32 0xC2FE0000#32))
        (roundeven (divf z (broadcastTo S16x32x128 (shapeCast S16x1x128 s shapeCasts_S16x128_S16x1x128) broadcasts_S16x1x128_S16x32x128)))))
    shapeCasts_S16x32x128_S512x128)

/-- A group's code at row `r` and lane `l`: `Spec.code` of the activation there under the scale of the row's block of 32. -/
theorem codes_at (z : FVec Ideal S16x32x128 .f32) (s : FVec Ideal S16x128 .f32) (r : Fin 512) (l : Fin 128) :
    codes z s (ix2 r l) = Spec.code (z (ix3 ⟨r / 32, by omega⟩ ⟨r % 32, by omega⟩ l)) (s (ix2 ⟨r / 32, by omega⟩ l)) := by
  pointwise [codes, Spec.code]

/-- Group 0 stores `codes` of its slice of the activation under its scales. -/
theorem codes0 (z : FVec Ideal S16x32x512 .f32) (i : IVec S16x128 32) (v : FVec Ideal S16x128 .f32) (d : BitVec 32) :
    k0_pay15 (F := Ideal) z i v d
      = codes (extractStridedSlice S16x32x128 ![0, 0, 0] z slices_S16x32x512_o0_0_0_S16x32x128) (k0_pay14 (F := Ideal) i v d) := rfl

/-- Group 1 stores `codes` of its slice of the activation under its scales. -/
theorem codes1 (z : FVec Ideal S16x32x512 .f32) (v : FVec Ideal S16x128 .f32) (i : IVec S16x128 32) (b : IVec S16x128 1) :
    k0_pay22 (F := Ideal) z v i b
      = codes (extractStridedSlice S16x32x128 ![0, 0, 128] z slices_S16x32x512_o0_0_128_S16x32x128) (k0_pay21 (F := Ideal) v i b) := rfl

/-- Group 2 stores `codes` of its slice of the activation under its scales. -/
theorem codes2 (z : FVec Ideal S16x32x512 .f32) (j : IVec S16x128 32) (v : FVec Ideal S16x128 .f32) (i : IVec S16x128 32) (b : IVec S16x128 1)
    (d : BitVec 32) :
    k0_pay29 (F := Ideal) (k0_pay27 (F := Ideal) z) (k0_pay28 (F := Ideal) j v i b d)
      = codes (extractStridedSlice S16x32x128 ![0, 0, 256] z slices_S16x32x512_o0_0_256_S16x32x128) (k0_pay26 (F := Ideal) j v i b d) := rfl

/-- Group 3 stores `codes` of its slice of the activation under its scales. -/
theorem codes3 (z : FVec Ideal S16x32x512 .f32) (j : IVec S16x128 32) (v : FVec Ideal S16x128 .f32) (i : IVec S16x128 32) :
    k0_pay33 (F := Ideal) z j v i
      = codes (extractStridedSlice S16x32x128 ![0, 0, 384] z slices_S16x32x512_o0_0_384_S16x32x128) (k0_pay32 (F := Ideal) j v i) := rfl

section block

variable (x0 : Vec Ideal S512x7168 .i8) (x1 : FVec Ideal S1x16x7168 .bf16) (x2 : Vec Ideal S512x7168 .i8)
  (x3 : FVec Ideal S1x16x7168 .bf16) (x4 : FVec Ideal S1x512 .f32)

/-- The scale at row block `g` and column `c` of the block. -/
def blkScale (g : Fin 16) (c : Fin 512) : EReal :=
  Spec.scale (Spec.blockMax fun p q => Spec.gelu (pre x0 x1 x2 x3 x4 ⟨g * 32 + p, by omega⟩ ⟨c / 32 * 32 + q, by omega⟩))

/-- The code at row `r` and column `c` of the block. -/
def blkCode (r c : Fin 512) : BitVec 8 :=
  Spec.code (Spec.gelu (pre x0 x1 x2 x3 x4 r c)) (blkScale x0 x1 x2 x3 x4 ⟨r / 32, by omega⟩ c)

/-- The scales a group at column offset `32 * k` computes are the block's scales there. -/
theorem group_scale (o k : ℕ) (ho : o = 32 * k) (h : S16x512.Slices ![0, o] S16x128) (g : Fin 16) (l : Fin 128) (c : Fin 512) (hc : c.val = o + l.val) :
    scales (extractStridedSlice S16x128 ![0, o] (k0_pay40 (F := Ideal) x0 x1 x2 x3 x4) h) (ix2 g l) = blkScale x0 x1 x2 x3 x4 g c := by
  rw [scales_at]
  unfold blkScale
  rw [Spec.blockMax_comm]
  refine congrArg Spec.scale (Finset.sup_congr rfl fun q _ => ?_)
  refine Eq.trans ?_ (pay40_at x0 x1 x2 x3 x4 g ⟨c / 32 * 32 + q, by omega⟩)
  pointwise
  exact congrArg (fun i => k0_pay40 (F := Ideal) x0 x1 x2 x3 x4 (ix2 g i)) (Fin.ext (by show o + (l.val / 32 * 32 + q.val) = _; simp only []; omega))

/-- The codes a group at column offset `32 * k` stores are the block's codes there. -/
theorem group_code (o k : ℕ) (ho : o = 32 * k) (h : S16x512.Slices ![0, o] S16x128) (h' : S16x32x512.Slices ![0, 0, o] S16x32x128)
    (r : Fin 512) (l : Fin 128) (c : Fin 512) (hc : c.val = o + l.val) :
    codes (extractStridedSlice S16x32x128 ![0, 0, o] (k0_pay39 (F := Ideal) x0 x1 x2 x3 x4) h')
      (scales (extractStridedSlice S16x128 ![0, o] (k0_pay40 (F := Ideal) x0 x1 x2 x3 x4) h)) (ix2 r l) = blkCode x0 x1 x2 x3 x4 r c := by
  rw [codes_at, group_scale x0 x1 x2 x3 x4 o k ho h _ l c hc]
  unfold blkCode
  refine congrArg (fun z => Spec.code z _) ?_
  refine Eq.trans ?_ ((pay39_at x0 x1 x2 x3 x4 ⟨r / 32, by omega⟩ ⟨r % 32, by omega⟩ c).trans ?_)
  · pointwise
    exact congrArg (fun i => k0_pay39 (F := Ideal) x0 x1 x2 x3 x4 (ix3 _ _ i)) (Fin.ext hc.symm)
  · exact congrArg (fun i => Spec.gelu (pre x0 x1 x2 x3 x4 i c)) (Fin.ext (by show r.val / 32 * 32 + r.val % 32 = r.val; omega))

/-- Group 0's scales over the block. -/
theorem block0 : k0_pay14 (F := Ideal) (k0_pay38 (F := Ideal) x0 x1 x2 x3 x4) (k0_pay41 (F := Ideal) x0 x1 x2 x3 x4) 8#32
    = scales (extractStridedSlice S16x128 ![0, 0] (k0_pay40 (F := Ideal) x0 x1 x2 x3 x4) slices_S16x512_o0_0_S16x128) := by
  unfold k0_pay41 k0_pay40 k0_pay38
  exact scales0 _ _

/-- Group 1's scales over the block. -/
theorem block1 : k0_pay21 (F := Ideal) (k0_pay42 (F := Ideal) x0 x1 x2 x3 x4) (k0_pay43 (F := Ideal) x0 x1 x2 x3 x4) (k0_pay44 (F := Ideal) x0 x1 x2 x3 x4)
    = scales (extractStridedSlice S16x128 ![0, 128] (k0_pay40 (F := Ideal) x0 x1 x2 x3 x4) slices_S16x512_o0_128_S16x128) := by
  unfold k0_pay42 k0_pay43 k0_pay44 k0_pay38
  exact scales1 _

/-- Group 2's scales over the block. -/
theorem block2 : k0_pay26 (F := Ideal) (k0_pay38 (F := Ideal) x0 x1 x2 x3 x4) (k0_pay45 (F := Ideal) x0 x1 x2 x3 x4) (k0_pay46 (F := Ideal) x0 x1 x2 x3 x4)
      (k0_pay47 (F := Ideal) x0 x1 x2 x3 x4) 128#32
    = scales (extractStridedSlice S16x128 ![0, 256] (k0_pay40 (F := Ideal) x0 x1 x2 x3 x4) slices_S16x512_o0_256_S16x128) := by
  unfold k0_pay45 k0_pay46 k0_pay47 k0_pay38
  exact scales2 _

/-- Group 3's scales over the block. -/
theorem block3 : k0_pay32 (F := Ideal) (k0_pay38 (F := Ideal) x0 x1 x2 x3 x4) (k0_pay48 (F := Ideal) x0 x1 x2 x3 x4) (k0_pay49 (F := Ideal) x0 x1 x2 x3 x4)
    = scales (extractStridedSlice S16x128 ![0, 384] (k0_pay40 (F := Ideal) x0 x1 x2 x3 x4) slices_S16x512_o0_384_S16x128) := by
  unfold k0_pay48 k0_pay49 k0_pay38
  exact scales3 _

/-- `group_scale` at indices given by their coordinates. -/
theorem group_scale_at (o k : ℕ) (ho : o = 32 * k) (h : S16x512.Slices ![0, o] S16x128) (x : S16x128.Idx) (y : S16x512.Idx)
    (h0 : (y 0 : ℕ) = x 0) (h1 : (y 1 : ℕ) = o + (x 1 : ℕ)) :
    scales (extractStridedSlice S16x128 ![0, o] (k0_pay40 (F := Ideal) x0 x1 x2 x3 x4) h) x = blkScale x0 x1 x2 x3 x4 (y 0) (y 1) := by
  have e := group_scale x0 x1 x2 x3 x4 o k ho h (x 0) (x 1) (y 1) h1
  rw [show x = ix2 (x 0) (x 1) by blk_ext]
  exact e.trans (congrArg (fun g => blkScale x0 x1 x2 x3 x4 g (y 1)) (Fin.ext h0.symm))

/-- `group_code` at indices given by their coordinates. -/
theorem group_code_at (o k : ℕ) (ho : o = 32 * k) (h : S16x512.Slices ![0, o] S16x128) (h' : S16x32x512.Slices ![0, 0, o] S16x32x128)
    (x : S512x128.Idx) (y : S512x512.Idx) (h0 : (y 0 : ℕ) = x 0) (h1 : (y 1 : ℕ) = o + (x 1 : ℕ)) :
    codes (extractStridedSlice S16x32x128 ![0, 0, o] (k0_pay39 (F := Ideal) x0 x1 x2 x3 x4) h')
      (scales (extractStridedSlice S16x128 ![0, o] (k0_pay40 (F := Ideal) x0 x1 x2 x3 x4) h)) x = blkCode x0 x1 x2 x3 x4 (y 0) (y 1) := by
  have e := group_code x0 x1 x2 x3 x4 o k ho h h' (x 0) (x 1) (y 1) h1
  rw [show x = ix2 (x 0) (x 1) by blk_ext]
  exact e.trans (congrArg (fun r => blkCode x0 x1 x2 x3 x4 r (y 1)) (Fin.ext h0.symm))

/-- THE SCALES a block writes. -/
theorem out6_at (y : S16x512.Idx) : out0_6 (F := Ideal) x0 x1 x2 x3 x4 y = blkScale x0 x1 x2 x3 x4 (y 0) (y 1) := by
  unfold out0_6
  canon_tiles x h
  case piece0 => rw [block3]; exact group_scale_at x0 x1 x2 x3 x4 384 12 rfl _ x y h0 h1
  case piece1 => rw [block2]; exact group_scale_at x0 x1 x2 x3 x4 256 8 rfl _ x y h0 h1
  case piece2 => rw [block1]; exact group_scale_at x0 x1 x2 x3 x4 128 4 rfl _ x y h0 h1
  case piece3 => rw [block0]; exact group_scale_at x0 x1 x2 x3 x4 0 0 rfl _ x y h0 (by omega)

/-- THE CODES a block writes. -/
theorem out5_at (y : S512x512.Idx) : out0_5 (F := Ideal) x0 x1 x2 x3 x4 y = blkCode x0 x1 x2 x3 x4 (y 0) (y 1) := by
  unfold out0_5
  canon_tiles x h
  case piece0 => rw [codes3, block3]; exact group_code_at x0 x1 x2 x3 x4 384 12 rfl _ _ x y h0 h1
  case piece1 => rw [codes2, block2]; exact group_code_at x0 x1 x2 x3 x4 256 8 rfl _ _ x y h0 h1
  case piece2 => rw [codes1, block1]; exact group_code_at x0 x1 x2 x3 x4 128 4 rfl _ _ x y h0 h1
  case piece3 => rw [codes0, block0]; exact group_code_at x0 x1 x2 x3 x4 0 0 rfl _ _ x y h0 (by omega)

end block

end Cert.KernelIdeal.Value

end
-- ==== Proof.KernelArray.lean ====
/-
  THE RESULT ARRAYS of the kernel: after the run the code array holds, row for row, the codes of the arguments' linear layer,
  and the scale array its blocks' scales, each repeated over its block's 32 columns; the host line after the region cuts
  the two results out of them.
-/
module

public import proofs.«01_k».proof.Proof.KernelInputs
public import proofs.«01_k».proof.Proof.KernelOut

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The block's linear layer at row `r` and column `n` is the arguments' at row `s` of batch entry `b` and column `N`, where
    that row and column are the ones the block has there. -/
theorem pre_at (c : Dev nD) (t : Fin cfg0.N) (r n : Fin 512) (b : Fin 4) (s : Fin 384) (N : Fin 2048)
    (hR : b.val * 384 + s.val = t.val % 3 * 512 + r.val) (hN : N.val = t.val / 3 * 512 + n.val) :
    pre (iblk m c 0 t) (iblk m c 1 t) (iblk m c 2 t) (iblk m c 3 t) (iblk m c 4 t) r n = argLin m c b s N := by
  refine (pre_eq m c t r n ⟨b * 384 + s, by omega⟩ N hR hN).trans ?_
  have e1 : (⟨(b.val * 384 + s.val) / 384, by omega⟩ : Fin 4) = b := Fin.ext (by show (b.val * 384 + s.val) / 384 = b.val; omega)
  have e2 : (⟨(b.val * 384 + s.val) % 384, by omega⟩ : Fin 384) = s := Fin.ext (by show (b.val * 384 + s.val) % 384 = s.val; omega)
  exact congrArg₂ (fun b' s' => argLin m c b' s' N) e1 e2

/-- The scale of the block's row group `g` at column `n` is the arguments' scale of row group `G` of batch entry `b` and
    column group `H`. -/
theorem scale_at (c : Dev nD) (t : Fin cfg0.N) (g : Fin 16) (n : Fin 512) (b : Fin 4) (G : Fin 12) (H : Fin 64)
    (hG : b.val * 12 + G.val = t.val % 3 * 16 + g.val) (hH : H.val = t.val / 3 * 16 + n.val / 32) :
    blkScale (iblk m c 0 t) (iblk m c 1 t) (iblk m c 2 t) (iblk m c 3 t) (iblk m c 4 t) g n = Spec.scaleAt (argLin m c) b G H := by
  unfold blkScale Spec.scaleAt
  refine congrArg Spec.scale (congrArg Spec.blockMax (funext fun p => funext fun q => congrArg Spec.gelu ?_))
  refine pre_at m c t _ _ b _ _ ?_ ?_
  · show b.val * 384 + (G.val * 32 + p.val) = t.val % 3 * 512 + (g.val * 32 + p.val)
    omega
  · show H.val * 32 + q.val = t.val / 3 * 512 + (n.val / 32 * 32 + q.val)
    omega

/-- The code the block has at row `r` and column `n` is the arguments' at row `s` of batch entry `b` and column `N`. -/
theorem code_at (c : Dev nD) (t : Fin cfg0.N) (r n : Fin 512) (b : Fin 4) (s : Fin 384) (N : Fin 2048)
    (hR : b.val * 384 + s.val = t.val % 3 * 512 + r.val) (hN : N.val = t.val / 3 * 512 + n.val) :
    blkCode (iblk m c 0 t) (iblk m c 1 t) (iblk m c 2 t) (iblk m c 3 t) (iblk m c 4 t) r n = Spec.codeAt (argLin m c) b s N := by
  unfold blkCode Spec.codeAt
  refine congrArg₂ Spec.code (congrArg Spec.gelu (pre_at m c t r n b s N hR hN)) (scale_at m c t _ _ b _ _ ?_ ?_)
  · show b.val * 12 + s.val / 32 = t.val % 3 * 16 + r.val / 32
    omega
  · show N.val / 32 = t.val / 3 * 16 + n.val / 32
    omega

/-- The code of row `R` of the 1536 rows (the rows of the batch entries one after another) at column `N`. -/
def codeRow (c : Dev nD) (R : Fin 1536) (N : Fin 2048) : BitVec 8 :=
  Spec.codeAt (argLin m c) ⟨R / 384, by omega⟩ ⟨R % 384, by omega⟩ N

/-- The scale of row group `G` of the 48 groups (the groups of the batch entries one after another) at column `N`. -/
def scaleRow (c : Dev nD) (G : Fin 48) (N : Fin 2048) : EReal :=
  Spec.scaleAt (argLin m c) ⟨G / 12, by omega⟩ ⟨G % 12, by omega⟩ ⟨N / 32, by omega⟩

/-- The codes of the arguments' linear layer, the rows of the batch entries one after another. -/
def codeArray (c : Dev nD) : Vec Ideal S1536x2048 .i8 := fun i => codeRow m c (i 0) (i 1)

/-- The scales of the arguments' linear layer, the row groups of the batch entries one after another, each scale repeated over
    its 32 columns. -/
def scaleArray (c : Dev nD) : FVec Ideal S48x2048 .f32 := fun i => scaleRow m c (i 0) (i 1)

/-- The block's code at row `r` and column `n` is the code of the row `R` and the column `N` the block has there. -/
theorem codeRow_at (c : Dev nD) (t : Fin cfg0.N) (r n : Fin 512) (R : Fin 1536) (N : Fin 2048)
    (hR : R.val = t.val % 3 * 512 + r.val) (hN : N.val = t.val / 3 * 512 + n.val) :
    blkCode (iblk m c 0 t) (iblk m c 1 t) (iblk m c 2 t) (iblk m c 3 t) (iblk m c 4 t) r n = codeRow m c R N := by
  refine code_at m c t r n _ _ N ?_ hN
  show R.val / 384 * 384 + R.val % 384 = _
  omega

/-- The block's scale at row group `g` and column `n` is the scale of the row group `G` and the column `N` the block has there. -/
theorem scaleRow_at (c : Dev nD) (t : Fin cfg0.N) (g : Fin 16) (n : Fin 512) (G : Fin 48) (N : Fin 2048)
    (hG : G.val = t.val % 3 * 16 + g.val) (hN : N.val = t.val / 3 * 512 + n.val) :
    blkScale (iblk m c 0 t) (iblk m c 1 t) (iblk m c 2 t) (iblk m c 3 t) (iblk m c 4 t) g n = scaleRow m c G N := by
  refine scale_at m c t g n _ _ _ ?_ ?_
  · show G.val / 12 * 12 + G.val % 12 = _
    omega
  · show N.val / 32 = _
    omega

/-- What a grid point stores into the code array. -/
theorem point5 (c : Dev nD) (t : Fin cfg0.N) (y : S512x512.Idx) :
    out0_5 (iblk m c 0 t) (iblk m c 1 t) (iblk m c 2 t) (iblk m c 3 t) (iblk m c 4 t) y
      = codeArray m c ((win0_5.blk t).view.emb y) :=
  (out5_at _ _ _ _ _ y).trans (codeRow_at m c t (y 0) (y 1) _ _ (by blk_simp [idx t]) (by blk_simp [idx t]))

/-- What a grid point stores into the scale array. -/
theorem point6 (c : Dev nD) (t : Fin cfg0.N) (y : S16x512.Idx) :
    out0_6 (iblk m c 0 t) (iblk m c 1 t) (iblk m c 2 t) (iblk m c 3 t) (iblk m c 4 t) y
      = scaleArray m c ((win0_6.blk t).view.emb y) :=
  (out6_at _ _ _ _ _ y).trans (scaleRow_at m c t (y 0) (y 1) _ _ (by blk_simp [idx t]) (by blk_simp [idx t]))

/-- The code array after the run. -/
theorem final5 (c : Dev nD) : (dats m 0 c).arrAt 5 (cfgs 0).N = codeArray m c := by
  refine (dats m 0 c).arrAt_eq_of_covers 5 _ (by decide +kernel) fun t _ y => ?_
  blk_simp
  rw [after0_5]
  exact point5 m c t y

/-- The scale array after the run. -/
theorem final6 (c : Dev nD) : (dats m 0 c).arrAt 6 (cfgs 0).N = scaleArray m c := by
  refine (dats m 0 c).arrAt_eq_of_covers 6 _ (by decide +kernel) fun t _ y => ?_
  blk_simp
  rw [after0_6]
  exact point6 m c t y

/-- The code array after the region, as the host line after it finds it. -/
theorem tail5 (c : Dev nD) : Pipeline.withArrays (cfgs 0).spec c (V0 m c) (fun w => (dats m 0 c).arrAt w (cfgs 0).N)
    (Proc.tc.devRef main_v10_0) = codeArray m c :=
  (Pipeline.withArrays_arr (cfgs 0).spec launch0.win.arr_inj c (V0 m c) (fun w => (dats m 0 c).arrAt w (cfgs 0).N) 5).trans (final5 m c)

/-- The scale array after the region, as the host line after it finds it. -/
theorem tail6 (c : Dev nD) : Pipeline.withArrays (cfgs 0).spec c (V0 m c) (fun w => (dats m 0 c).arrAt w (cfgs 0).N)
    (Proc.tc.devRef main_v10_1) = scaleArray m c :=
  (Pipeline.withArrays_arr (cfgs 0).spec launch0.win.arr_inj c (V0 m c) (fun w => (dats m 0 c).arrAt w (cfgs 0).N) 6).trans (final6 m c)

/-- The row of the code array that holds row `s` of batch entry `b`. -/
theorem codeArray_at (c : Dev nD) (b : Fin 4) (s : Fin 384) (n : Fin 2048) (R : Fin 1536) (hR : R.val = b.val * 384 + s.val) :
    codeArray m c (ix2 R n) = Spec.codeAt (argLin m c) b s n := by
  have e1 : (⟨R.val / 384, by omega⟩ : Fin 4) = b := Fin.ext (by show R.val / 384 = b.val; omega)
  have e2 : (⟨R.val % 384, by omega⟩ : Fin 384) = s := Fin.ext (by show R.val % 384 = s.val; omega)
  exact congrArg₂ (fun b' s' => Spec.codeAt (argLin m c) b' s' n) e1 e2

/-- The element of the scale array that holds the scale of row group `g` of batch entry `b` and column group `h`. -/
theorem scaleArray_at (c : Dev nD) (b : Fin 4) (g : Fin 12) (h : Fin 64) (G : Fin 48) (hG : G.val = b.val * 12 + g.val)
    (N : Fin 2048) (hN : N.val = h.val * 32) : scaleArray m c (ix2 G N) = Spec.scaleAt (argLin m c) b g h := by
  have e1 : (⟨G.val / 12, by omega⟩ : Fin 4) = b := Fin.ext (by show G.val / 12 = b.val; omega)
  have e2 : (⟨G.val % 12, by omega⟩ : Fin 12) = g := Fin.ext (by show G.val % 12 = g.val; omega)
  have e3 : (⟨N.val / 32, by omega⟩ : Fin 64) = h := Fin.ext (by show N.val / 32 = h.val; omega)
  show Spec.scaleAt (argLin m c) ⟨G.val / 12, _⟩ ⟨G.val % 12, _⟩ ⟨N.val / 32, _⟩ = _
  rw [e1, e2, e3]

/-- The first result: the codes, read out of the code array. -/
theorem result0 (c : Dev nD) (b : Fin 4) (s : Fin 384) (n : Fin 2048) :
    (Pipeline.afterTail₀ cfgs (dats m) 0 (V0 m) [hostOps1] c main_v14 : Vec Ideal S4x384x2048 .i8) (ix3 b s n)
      = Spec.codeAt (argLin m c) b s n := by
  simp only [Pipeline.afterTail₀, hostOps1, List.flatten_cons, List.flatten_nil, List.append_nil]
  after_results
  rw [tail5]
  generalize hX : codeArray m c = X
  pointwise
  subst hX
  exact codeArray_at m c b s n _ rfl

/-- The second result: the scales, one read out of every 32 columns of the scale array. -/
theorem result1 (c : Dev nD) (b : Fin 4) (g : Fin 12) (h : Fin 64) :
    (Pipeline.afterTail₀ cfgs (dats m) 0 (V0 m) [hostOps1] c main_v13 : FVec Ideal S4x12x64 .f32) (ix3 b g h)
      = Spec.scaleAt (argLin m c) b g h := by
  simp only [Pipeline.afterTail₀, hostOps1, List.flatten_cons, List.flatten_nil, List.append_nil]
  after_results
  rw [tail6]
  generalize hX : scaleArray m c = X
  pointwise
  subst hX
  exact scaleArray_at m c b g h _ rfl _ rfl

end Cert.KernelIdeal.Value

end
-- ==== Proof.ReferenceArray.lean ====
/-
  THE RESULTS of the reference, read at one index each: the code of the arguments' linear layer there, and the scale of its
  block.
-/
module

public import proofs.«01_k».proof.Proof.Spec
public import proofs.«01_k».proof.Proof.Gen.ReferenceIdeal.Value
@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen

variable (a0 : Vec Ideal S4x384x7168 .i8) (a1 : FVec Ideal S4x12x224 .f32) (a2 : Vec Ideal S2048x7168 .i8) (a3 : FVec Ideal S64x224 .f32)
  (a4 : FVec Ideal S2048 .f32)

/-- The activation of the linear layer, at row `p` of row group `g` of batch entry `b` and column `q` of column group `h`. -/
theorem pay3_at (b : Fin 4) (g : Fin 12) (p : Fin 32) (h : Fin 64) (q : Fin 32) :
    k0_pay3 (F := Ideal) a0 a1 a2 a3 a4 (ix5 b g p h q)
      = Spec.gelu (Spec.linOf a0 a1 a2 a3 a4 b ⟨g * 32 + p, by omega⟩ ⟨h * 32 + q, by omega⟩) := by
  have e1 : (⟨(g.val * 32 + p.val) / 32, by omega⟩ : Fin 12) = g := Fin.ext (by show (g.val * 32 + p.val) / 32 = g.val; omega)
  have e2 : (⟨(h.val * 32 + q.val) / 32, by omega⟩ : Fin 64) = h := Fin.ext (by show (h.val * 32 + q.val) / 32 = h.val; omega)
  unfold Spec.linOf Spec.lin
  rw [e1, e2]
  unfold Spec.gelu
  pointwise [k0_pay3]

/-- The indices the maximum over a block runs over are the block's rows and columns. -/
theorem block_sup (f : S4x12x32x64x32.Idx → EReal) (b : Fin 4) (g : Fin 12) (h : Fin 64) :
    (Finset.univ.filter fun i => reduces_S4x12x32x64x32_S4x12x64.drop i = ix3 b g h).sup f
      = Finset.univ.sup fun p : Fin 32 => Finset.univ.sup fun q : Fin 32 => f (ix5 b g p h q) := by
  refine eq_of_forall_ge_iff fun v => ?_
  simp only [Finset.sup_le_iff, Finset.mem_filter, Finset.mem_univ, true_and, forall_const]
  have d0 := fun i => reduces_S4x12x32x64x32_S4x12x64.drop_apply_val_of_eq i 0 0
  have d1 := fun i => reduces_S4x12x32x64x32_S4x12x64.drop_apply_val_of_eq i 1 1
  have d2 := fun i => reduces_S4x12x32x64x32_S4x12x64.drop_apply_val_of_eq i 2 3
  constructor
  · intro H p q
    refine H _ (funext fun a => Fin.ext ?_)
    match a with
    | ⟨0, _⟩ => exact d0 _
    | ⟨1, _⟩ => exact d1 _
    | ⟨2, _⟩ => exact d2 _
  · intro H i hi
    have e : i = ix5 b g (i 2) h (i 4) := funext fun a => Fin.ext (by
      match a with
      | ⟨0, _⟩ => exact (d0 i).symm.trans (congrArg (fun j : S4x12x64.Idx => (j 0).val) hi)
      | ⟨1, _⟩ => exact (d1 i).symm.trans (congrArg (fun j : S4x12x64.Idx => (j 1).val) hi)
      | ⟨2, _⟩ => rfl
      | ⟨3, _⟩ => exact (d2 i).symm.trans (congrArg (fun j : S4x12x64.Idx => (j 2).val) hi)
      | ⟨4, _⟩ => rfl)
    exact (congrArg f e).trans_le (H _ _)

/-- The greatest absolute value of a block of the activation. -/
theorem pay4_at (b : Fin 4) (g : Fin 12) (h : Fin 64) :
    k0_pay4 (F := Ideal) a0 a1 a2 a3 a4 (ix3 b g h)
      = Spec.blockMax fun p q => Spec.gelu (Spec.linOf a0 a1 a2 a3 a4 b ⟨g * 32 + p, by omega⟩ ⟨h * 32 + q, by omega⟩) := by
  pointwise [k0_pay4]
  refine (Spec.fold_max _ _).trans ((block_sup _ b g h).trans ?_)
  unfold Spec.blockMax
  exact Finset.sup_congr rfl fun p _ => Finset.sup_congr rfl fun q _ => congrArg Spec.abs' (pay3_at a0 a1 a2 a3 a4 b g p h q)

/-- The first named value of the body is the blocks' greatest absolute values over the whole argument arrays. -/
theorem pay6_eq (a0 : Vec Ideal S4x384x7168 .i8) (a1 : Vec Ideal S4x12x224 .f32) (a2 : Vec Ideal S2048x7168 .i8) (a3 : Vec Ideal S64x224 .f32)
    (a4 : Vec Ideal S2048 .f32) : k0_pay6 (F := Ideal) a0 a1 a2 a3 a4 = k0_pay4 a0 a1 a2 a3 a4 := by
  unfold k0_pay6
  rw [View.ld_unit_zero (S := S4x384x7168) hz0 _ a0, View.ld_unit_zero (S := S4x12x224) hz1 _ a1, View.ld_unit_zero (S := S2048x7168) hz2 _ a2, View.ld_unit_zero (S := S64x224) hz3 _ a3, View.ld_unit_zero (S := S2048) hz4 _ a4]

/-- The second one is where these are zero. -/
theorem pay7_eq (a0 : Vec Ideal S4x384x7168 .i8) (a1 : Vec Ideal S4x12x224 .f32) (a2 : Vec Ideal S2048x7168 .i8) (a3 : Vec Ideal S64x224 .f32)
    (a4 : Vec Ideal S2048 .f32) : k0_pay7 (F := Ideal) a0 a1 a2 a3 a4 = k0_pay5 a0 a1 a2 a3 a4 := by
  unfold k0_pay7
  rw [View.ld_unit_zero (S := S4x384x7168) hz0 _ a0, View.ld_unit_zero (S := S4x12x224) hz1 _ a1, View.ld_unit_zero (S := S2048x7168) hz2 _ a2, View.ld_unit_zero (S := S64x224) hz3 _ a3, View.ld_unit_zero (S := S2048) hz4 _ a4]

/-- The scales from the blocks' greatest absolute values `z`. -/
theorem scale_of (z : FVec Ideal S4x12x64 .f32) (b : Fin 4) (g : Fin 12) (h : Fin 64) :
    k0_pay1 (F := Ideal) z (cmpf .oeq z (broadcast S4x12x64 (Scalar.ofBits .f32 0x00000000#32))) (Scalar.ofBits .f32 0x42FE0000#32) (ix3 b g h)
      = Spec.scale (z (ix3 b g h)) := by
  unfold Spec.scale
  pointwise [k0_pay1]

/-- The scale array of the reference's body. -/
theorem pay1_at (b : Fin 4) (g : Fin 12) (h : Fin 64) :
    k0_pay1 (F := Ideal) (k0_pay4 a0 a1 a2 a3 a4) (k0_pay5 a0 a1 a2 a3 a4) (Scalar.ofBits .f32 0x42FE0000#32) (ix3 b g h)
      = Spec.scale (k0_pay4 (F := Ideal) a0 a1 a2 a3 a4 (ix3 b g h)) := by
  unfold k0_pay5
  exact scale_of _ b g h

/-- The code array of the reference's body, from its activation and its scales. -/
theorem pay2_at (z : FVec Ideal S4x12x32x64x32 .f32) (a : FVec Ideal S4x12x64 .f32) (k : IVec S4x12x64 1) (c : Ideal .f32)
    (b : Fin 4) (s : Fin 384) (n : Fin 2048) :
    k0_pay2 (F := Ideal) z a k c (ix3 b s n)
      = Spec.code (z (ix5 b ⟨s / 32, by omega⟩ ⟨s % 32, by omega⟩ ⟨n / 32, by omega⟩ ⟨n % 32, by omega⟩))
          (k0_pay1 (F := Ideal) a k c (ix3 b ⟨s / 32, by omega⟩ ⟨n / 32, by omega⟩)) := by
  unfold Spec.code
  pointwise [k0_pay2]

/-- The second result of the reference: the blocks' scales. -/
theorem scale_at (b : Fin 4) (g : Fin 12) (h : Fin 64) :
    G6 (F := Ideal) a0 a1 a2 a3 a4 (ix3 b g h) = Spec.scaleAt (Spec.linOf a0 a1 a2 a3 a4) b g h := by
  unfold G6
  rw [pay6_eq, pay7_eq]
  exact (pay1_at a0 a1 a2 a3 a4 b g h).trans (congrArg Spec.scale (pay4_at a0 a1 a2 a3 a4 b g h))

/-- The first result of the reference: the codes. -/
theorem code_at (b : Fin 4) (s : Fin 384) (n : Fin 2048) :
    G5 (F := Ideal) a0 a1 a2 a3 a4 (ix3 b s n) = Spec.codeAt (Spec.linOf a0 a1 a2 a3 a4) b s n := by
  unfold G5
  rw [pay6_eq, pay7_eq]
  refine (pay2_at _ _ _ _ b s n).trans (congrArg₂ Spec.code ((pay3_at a0 a1 a2 a3 a4 b _ _ _ _).trans ?_)
    ((pay1_at a0 a1 a2 a3 a4 b _ _).trans (congrArg Spec.scale (pay4_at a0 a1 a2 a3 a4 b _ _))))
  have e1 : (⟨s.val / 32 * 32 + s.val % 32, by omega⟩ : Fin 384) = s := Fin.ext (by show s.val / 32 * 32 + s.val % 32 = s.val; omega)
  have e2 : (⟨n.val / 32 * 32 + n.val % 32, by omega⟩ : Fin 2048) = n := Fin.ext (by show n.val / 32 * 32 + n.val % 32 = n.val; omega)
  exact congrArg₂ (fun s' n' => Spec.gelu (Spec.linOf a0 a1 a2 a3 a4 b s' n')) e1 e2

end Cert.ReferenceIdeal.Value

end
-- ==== Proof.Equation.lean ====
/-
  THE TWO RUNS AND THE EQUATION: from memories that agree on the arguments, the kernel and the reference end with the same
  codes and the same scales, namely those of the arguments' linear layer.
-/
module

public import proofs.«01_k».proof.Proof.KernelArray
public import proofs.«01_k».proof.Proof.ReferenceArray

@[expose] public section

set_option maxRecDepth 16384

noncomputable section

open Idealize.ShloMosaic Idealize.ShloMosaic.TcCoe Idealize.SL.Sem
open Idealize.ShloMosaic.Pipeline (Dat)

namespace Cert.Spec

/-- An index of a rank-3 array is its three coordinates. -/
theorem eta3 {a b c : Nat} (i : (⟨3, ![a, b, c]⟩ : Shape).Idx) : i = ix3 (i 0) (i 1) (i 2) :=
  funext fun d => match d with
    | ⟨0, _⟩ => rfl
    | ⟨1, _⟩ => rfl
    | ⟨2, _⟩ => rfl

/-- The first result as an array: the codes. -/
def codes (z : Fin 4 → Fin 384 → Fin 2048 → EReal) : Vec Ideal ⟨3, ![4, 384, 2048]⟩ .i8 := fun i => codeAt z (i 0) (i 1) (i 2)

/-- The second result as an array: the scales. -/
def scales (z : Fin 4 → Fin 384 → Fin 2048 → EReal) : FVec Ideal ⟨3, ![4, 12, 64]⟩ .f32 := fun i => scaleAt z (i 0) (i 1) (i 2)

end Cert.Spec

namespace Cert.KernelIdeal.Value

open Cert.KernelIdeal Cert.KernelIdeal.Gen

variable (m : (ℓ : Loc nD τ sig) → Buf (Elt Ideal) ℓ) (ρ : Dev nD → PrngReg)

/-- The kernel's first result is the codes of the arguments' linear layer. -/
theorem codes_eq (c : Dev nD) : Pipeline.afterTail₀ cfgs (dats m) 0 (V0 m) [hostOps1] c main_v14 = Spec.codes (argLin m c) :=
  funext fun i => (congrArg _ (Spec.eta3 (a := 4) (b := 384) (c := 2048) i)).trans (result0 m c _ _ _)

/-- The kernel's second result is the scales of the arguments' linear layer. -/
theorem scales_eq (c : Dev nD) : Pipeline.afterTail₀ cfgs (dats m) 0 (V0 m) [hostOps1] c main_v13 = Spec.scales (argLin m c) :=
  funext fun i => (congrArg _ (Spec.eta3 (a := 4) (b := 12) (c := 64) i)).trans (result1 m c _ _ _)

/-- The kernel runs, ends with the codes and the scales of the arguments' linear layer, and leaves its arguments alone. -/
theorem run : θ_run defs (onTc (τ := τ) (main (F := Ideal))) ⟨m, fun _ => 0, ρ⟩ (fun r => ∀ c : Dev nD,
      r.2.mem ((c.tc : Thread nD τ).loc main_v14) = Spec.codes (argLin m c)
      ∧ r.2.mem ((c.tc : Thread nD τ).loc main_v13) = Spec.scales (argLin m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1 c).2 main_v14 (Pipeline.mem_restRefs_of main_v14 (by decide) (by decide))).trans (codes_eq m c),
       ((h.1 c).2 main_v13 (Pipeline.mem_restRefs_of main_v13 (by decide) (by decide))).trans (scales_eq m c), h.2 c⟩)
    (θ_run_and (run_main m ρ) (unchanged m ρ))

end Cert.KernelIdeal.Value

namespace Cert.ReferenceIdeal.Value

open Cert.ReferenceIdeal Cert.ReferenceIdeal.Gen

variable (a0 : Vec Ideal S4x384x7168 .i8) (a1 : FVec Ideal S4x12x224 .f32) (a2 : Vec Ideal S2048x7168 .i8) (a3 : FVec Ideal S64x224 .f32)
  (a4 : FVec Ideal S2048 .f32)

/-- The reference's first result is the codes of the arguments' linear layer. -/
theorem codes_eq : G5 (F := Ideal) a0 a1 a2 a3 a4 = Spec.codes (Spec.linOf a0 a1 a2 a3 a4) :=
  funext fun i => (congrArg _ (Spec.eta3 (a := 4) (b := 384) (c := 2048) i)).trans (code_at a0 a1 a2 a3 a4 _ _ _)

/-- The reference's second result is the scales of the arguments' linear layer. -/
theorem scales_eq : G6 (F := Ideal) a0 a1 a2 a3 a4 = Spec.scales (Spec.linOf a0 a1 a2 a3 a4) :=
  funext fun i => (congrArg _ (Spec.eta3 (a := 4) (b := 12) (c := 64) i)).trans (scale_at a0 a1 a2 a3 a4 _ _ _)

end Cert.ReferenceIdeal.Value

end
-- ==== Proof.lean ====
/-
  THE CLAIM: the kernel, its idealization and the reference run to the end with their arguments unchanged and every counter at
  zero; the idealization is the kernel's own text; and over the extended reals kernel and reference end with equal codes and
  equal scales.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- From memories that agree on the arguments, kernel and reference end with equal results and unchanged arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Spec.codes (KernelIdeal.Value.argLin m c), fun c => Spec.scales (KernelIdeal.Value.argLin m c),
    KernelIdeal.Value.run m g, (θ_run _ _ _).mono (fun r h c => ?_) (ReferenceIdeal.Value.run m' g')⟩
  obtain ⟨h5, h6, hargs⟩ := h c
  obtain ⟨e0, e1, e2, e3, e4⟩ := hagree c
  rw [ReferenceIdeal.Value.codes_eq, e0, e1, e2, e3, e4] at h5
  rw [ReferenceIdeal.Value.scales_eq, e0, e1, e2, e3, e4] at h6
  exact ⟨h5, h6, hargs⟩

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
